-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x2048 : Shape := ⟨3, ![8, 2048, 2048]⟩
abbrev S1024x8192 : Shape := ⟨2, ![1024, 8192]⟩
abbrev S16x8192 : Shape := ⟨2, ![16, 8192]⟩
abbrev S8192 : Shape := ⟨1, ![8192]⟩
abbrev S16384x2048 : Shape := ⟨2, ![16384, 2048]⟩
abbrev S1x8192 : Shape := ⟨2, ![1, 8192]⟩
abbrev S16384x8192 : Shape := ⟨2, ![16384, 8192]⟩
abbrev S512x2048 : Shape := ⟨2, ![512, 2048]⟩
abbrev S1024x2048 : Shape := ⟨2, ![1024, 2048]⟩
abbrev S16x2048 : Shape := ⟨2, ![16, 2048]⟩
abbrev S1x2048 : Shape := ⟨2, ![1, 2048]⟩
abbrev S4x2048x2048 : Shape := ⟨3, ![4, 2048, 2048]⟩
abbrev S64x2048 : Shape := ⟨2, ![64, 2048]⟩
abbrev S128x2048 : Shape := ⟨2, ![128, 2048]⟩
abbrev S1x128x2048 : Shape := ⟨3, ![1, 128, 2048]⟩
abbrev S1x2048x2048 : Shape := ⟨3, ![1, 2048, 2048]⟩
abbrev S2048x2048 : Shape := ⟨2, ![2048, 2048]⟩
abbrev S8x2048x8192 : Shape := ⟨3, ![8, 2048, 8192]⟩

abbrev nBuf : Space → Nat
  | .hbm => 9
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S1024x8192, .i8⟩
  | .hbm, ⟨2, _⟩ => ⟨S16x8192, .bf16⟩
  | .hbm, ⟨3, _⟩ => ⟨S16x8192, .i8⟩
  | .hbm, ⟨4, _⟩ => ⟨S8192, .f32⟩
  | .hbm, ⟨5, _⟩ => ⟨S16384x2048, .f32⟩
  | .hbm, ⟨6, _⟩ => ⟨S1x8192, .f32⟩
  | .hbm, ⟨7, _⟩ => ⟨S16384x8192, .f32⟩
  | .hbm, ⟨8, _⟩ => ⟨S8x2048x8192, .f32⟩
  | .local _ .vmem, ⟨0, _⟩ => ⟨S512x2048, .f32⟩
  | .local _ .vmem, ⟨1, _⟩ => ⟨S512x2048, .f32⟩
  | .local _ .vmem, ⟨2, _⟩ => ⟨S1024x2048, .i8⟩
  | .local _ .vmem, ⟨3, _⟩ => ⟨S1024x2048, .i8⟩
  | .local _ .vmem, ⟨4, _⟩ => ⟨S16x2048, .bf16⟩
  | .local _ .vmem, ⟨5, _⟩ => ⟨S16x2048, .bf16⟩
  | .local _ .vmem, ⟨6, _⟩ => ⟨S16x2048, .i8⟩
  | .local _ .vmem, ⟨7, _⟩ => ⟨S16x2048, .i8⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S4x2048x2048, .bf16⟩
  | .local _ .vmem, ⟨13, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v39 : Index := Scalar.indexCast arg1
  let c0_17 : Index := 0#32
  let c0_18 : Index := 0#32
  ![v39.toNat, 0, 0]
def k0_off2 (i : grid0.Coords) : Fin 3 → Nat :=
  let arg1 : BitVec 32 := BitVec.ofNat 32 (i 1).val
  let v66 : Index := Scalar.indexCast arg1
  let c128 : Index := 128#32
  let c0_28 : Index := 0#32
  ![v66.toNat, 128, 0]
def k0_off3 (i : grid0.Coords) : Fin 3 → Nat :=
  let arg1 : BitVec 32 := BitVec.ofNat 32 (i 1).val
  let v93 : Index := Scalar.indexCast arg1
  let c256 : Index := 256#32
  let c0_39 : Index := 0#32
  ![v93.toNat, 256, 0]
def k0_off4 (i : grid0.Coords) : Fin 3 → Nat :=
  let arg1 : BitVec 32 := BitVec.ofNat 32 (i 1).val
  let v120 : Index := Scalar.indexCast arg1
  let c384 : Index := 384#32
  let c0_49 : Index := 0#32
  ![v120.toNat, 384, 0]
def k0_off5 (i : grid0.Coords) : Fin 3 → Nat :=
  let arg1 : BitVec 32 := BitVec.ofNat 32 (i 1).val
  let v147 : Index := Scalar.indexCast arg1
  let c512 : Index := 512#32
  let c0_60 : Index := 0#32
  ![v147.toNat, 512, 0]
def k0_off6 (i : grid0.Coords) : Fin 3 → Nat :=
  let arg1 : BitVec 32 := BitVec.ofNat 32 (i 1).val
  let v174 : Index := Scalar.indexCast arg1
  let c640 : Index := 640#32
  let c0_70 : Index := 0#32
  ![v174.toNat, 640, 0]
def k0_off7 (i : grid0.Coords) : Fin 3 → Nat :=
  let arg1 : BitVec 32 := BitVec.ofNat 32 (i 1).val
  let v201 : Index := Scalar.indexCast arg1
  let c768 : Index := 768#32
  let c0_81 : Index := 0#32
  ![v201.toNat, 768, 0]
def k0_off8 (i : grid0.Coords) : Fin 3 → Nat :=
  let arg1 : BitVec 32 := BitVec.ofNat 32 (i 1).val
  let v228 : Index := Scalar.indexCast arg1
  let c896 : Index := 896#32
  let c0_91 : Index := 0#32
  ![v228.toNat, 896, 0]
def k0_off9 (i : grid0.Coords) : Fin 3 → Nat :=
  let arg1 : BitVec 32 := BitVec.ofNat 32 (i 1).val
  let v255 : Index := Scalar.indexCast arg1
  let c1024 : Index := 1024#32
  let c0_102 : Index := 0#32
  ![v255.toNat, 1024, 0]
def k0_off10 (i : grid0.Coords) : Fin 3 → Nat :=
  let arg1 : BitVec 32 := BitVec.ofNat 32 (i 1).val
  let v282 : Index := Scalar.indexCast arg1
  let c1152 : Index := 1152#32
  let c0_112 : Index := 0#32
  ![v282.toNat, 1152, 0]
def k0_off11 (i : grid0.Coords) : Fin 3 → Nat :=
  let arg1 : BitVec 32 := BitVec.ofNat 32 (i 1).val
  let v309 : Index := Scalar.indexCast arg1
  let c1280 : Index := 1280#32
  let c0_123 : Index := 0#32
  ![v309.toNat, 1280, 0]
def k0_off12 (i : grid0.Coords) : Fin 3 → Nat :=
  let arg1 : BitVec 32 := BitVec.ofNat 32 (i 1).val
  let v336 : Index := Scalar.indexCast arg1
  let c1408 : Index := 1408#32
  let c0_133 : Index := 0#32
  ![v336.toNat, 1408, 0]
def k0_off13 (i : grid0.Coords) : Fin 3 → Nat :=
  let arg1 : BitVec 32 := BitVec.ofNat 32 (i 1).val
  let v363 : Index := Scalar.indexCast arg1
  let c1536 : Index := 1536#32
  let c0_144 : Index := 0#32
  ![v363.toNat, 1536, 0]
def k0_off14 (i : grid0.Coords) : Fin 3 → Nat :=
  let arg1 : BitVec 32 := BitVec.ofNat 32 (i 1).val
  let v390 : Index := Scalar.indexCast arg1
  let c1664 : Index := 1664#32
  let c0_154 : Index := 0#32
  ![v390.toNat, 1664, 0]
def k0_off15 (i : grid0.Coords) : Fin 3 → Nat :=
  let arg1 : BitVec 32 := BitVec.ofNat 32 (i 1).val
  let v417 : Index := Scalar.indexCast arg1
  let c1792 : Index := 1792#32
  let c0_165 : Index := 0#32
  ![v417.toNat, 1792, 0]
def k0_off16 (i : grid0.Coords) : Fin 3 → Nat :=
  let arg1 : BitVec 32 := BitVec.ofNat 32 (i 1).val
  let v444 : Index := Scalar.indexCast arg1
  let c1920 : Index := 1920#32
  let c0_175 : Index := 0#32
  ![v444.toNat, 1920, 0]
def k0_off17 (i : grid0.Coords) : Fin 3 → Nat :=
  let arg1 : BitVec 32 := BitVec.ofNat 32 (i 1).val
  let v7 : Index := Scalar.indexCast arg1
  let c0_4 : Index := 0#32
  let c0_5 : Index := 0#32
  ![v7.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x2048 : Shape := ⟨3, ![8, 2048, 2048]⟩
abbrev S1024x8192 : Shape := ⟨2, ![1024, 8192]⟩
abbrev S16x8192 : Shape := ⟨2, ![16, 8192]⟩
abbrev S8192 : Shape := ⟨1, ![8192]⟩
abbrev S_ : Shape := ⟨0, ![]⟩
abbrev S1024x1x8192 : Shape := ⟨3, ![1024, 1, 8192]⟩
abbrev S1024x2x8192 : Shape := ⟨3, ![1024, 2, 8192]⟩
abbrev S16x128x8192 : Shape := ⟨3, ![16, 128, 8192]⟩
abbrev S16x1x8192 : Shape := ⟨3, ![16, 1, 8192]⟩
abbrev S2048x8192 : Shape := ⟨2, ![2048, 8192]⟩
abbrev S8x2048x8192 : Shape := ⟨3, ![8, 2048, 8192]⟩
abbrev S1x1x8192 : Shape := ⟨3, ![1, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1024x8192, .i8⟩
  | .hbm, ⟨2, _⟩ => ⟨S16x8192, .bf16⟩
  | .hbm, ⟨3, _⟩ => ⟨S16x8192, .i8⟩
  | .hbm, ⟨4, _⟩ => ⟨S8192, .f32⟩
  | .hbm, ⟨5, _⟩ => ⟨S1024x8192, .i32⟩
  | .hbm, ⟨6, _⟩ => ⟨S_, .i32⟩
  | .hbm, ⟨7, _⟩ => ⟨S1024x8192, .i32⟩
  | .hbm, ⟨8, _⟩ => ⟨S1024x8192, .i32⟩
  | .hbm, ⟨9, _⟩ => ⟨S_, .i32⟩
  | .hbm, ⟨10, _⟩ => ⟨S1024x8192, .i32⟩
  | .hbm, ⟨11, _⟩ => ⟨S1024x8192, .i32⟩
  | .hbm, ⟨12, _⟩ => ⟨S1024x1x8192, .i32⟩
  | .hbm, ⟨13, _⟩ => ⟨S1024x1x8192, .i32⟩
  | .hbm, ⟨14, _⟩ => ⟨S1024x2x8192, .i32⟩
  | .hbm, ⟨15, _⟩ => ⟨S16x128x8192, .i32⟩
  | .hbm, ⟨16, _⟩ => ⟨S16x128x8192, .bf16⟩
  | .hbm, ⟨17, _⟩ => ⟨S16x8192, .i32⟩
  | .hbm, ⟨18, _⟩ => ⟨S16x8192, .bf16⟩
  | .hbm, ⟨19, _⟩ => ⟨S16x1x8192, .bf16⟩
  | .hbm, ⟨20, _⟩ => ⟨S16x1x8192, .bf16⟩
  | .hbm, ⟨21, _⟩ => ⟨S16x128x8192, .bf16⟩
  | .hbm, ⟨22, _⟩ => ⟨S16x128x8192, .bf16⟩
  | .hbm, ⟨23, _⟩ => ⟨S16x128x8192, .bf16⟩
  | .hbm, ⟨24, _⟩ => ⟨S16x128x8192, .bf16⟩
  | .hbm, ⟨25, _⟩ => ⟨S2048x8192, .bf16⟩
  | .hbm, ⟨26, _⟩ => ⟨S8x2048x2048, .bf16⟩
  | .hbm, ⟨27, _⟩ => ⟨S8x2048x8192, .f32⟩
  | .hbm, ⟨28, _⟩ => ⟨S1x1x8192, .f32⟩
  | .hbm, ⟨29, _⟩ => ⟨S8x2048x8192, .f32⟩
  | .hbm, ⟨30, _⟩ => ⟨S8x2048x8192, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Frame.lean ====
/- The kernel at machine floats runs to the end and leaves its arguments and semaphores as they were. Nothing is said here
   of the result: the scratches and the result's buffer are held at some contents throughout. -/
module

public import proofs.«01_k».proof.Proof.Gen.Kernel.Frame
public import proofs.«01_k».proof.Proof.Gen.Kernel.Skeleton
public import Idealize.ShloMosaic.Lib.Claim
public import Idealize.ShloMosaic.Init

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body -/

/-- The body is on the first row of blocks, where it fills the weight scratch. -/
abbrev condW (i : grid0.Coords) : Prop := k0_cond1 i = 1#1
/-- The body is on the first column block, where it fills the activation scratch. -/
abbrev condX (i : grid0.Coords) : Prop := (Scalar.cmpi .ne (Scalar.extui (Scalar.cmpi .eq (BitVec.ofNat 32 (i 1).val) 0#32)) 0#32) = 1#1

/-- Each window's buffer at a point, and that it is a whole buffer. -/
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .i8 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x2048 .i8 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x2048 .f32 := win0_5.stage (cfg0.slots t 5)
abbrev hs5 (t : Fin cfg0.N) : (ms5 t).IsWhole := hstage0_5 ((cfg0.slots t 5).cast nbuf0_5)
/-- The weight scratch. -/
abbrev scW : Memref sig .tc .vmem S4x2048x2048 .bf16 := Memref.whole cc0_scratch0
/-- The activation scratch. -/
abbrev scX : Memref sig .tc .vmem S512x2048 .bf16 := Memref.whole cc0_scratch1

/-- Between points the two scratches are held at some contents, with the generator register. -/
theorem PhiA_eq (c : Dev nD) :
    (Pipeline.ΦA spec0 c : sProp 𝕄)
      = iprop(iprop((∃ d, owns (c : Thread nD τ) scW fullShare d) ∗ (∃ d, owns (c : Thread nD τ) scX fullShare d)) ∗ (∃ r, prngReg c r)) := by
  unfold Pipeline.ΦA; rw [scopedRest0_eq]; simp only [scW, scX, owns_whole]; try rfl

set_option maxHeartbeats 4000000 in
/-- One run of the body, at any point: its inputs end as they were, its other buffers at some contents. -/
theorem body_runs (c : Dev nD) (i : grid0.Coords) (arg2 : Memref sig .tc .vmem S512x2048 .f32) (harg2 : arg2.IsWhole) (arg3 : Memref sig .tc .vmem S1024x2048 .i8) (harg3 : arg3.IsWhole) (arg4 : Memref sig .tc .vmem S16x2048 .bf16) (harg4 : arg4.IsWhole)
    (arg5 : Memref sig .tc .vmem S16x2048 .i8) (harg5 : arg5.IsWhole) (arg6 : Memref sig .tc .vmem S1x2048 .f32) (harg6 : arg6.IsWhole) (arg7 : Memref sig .tc .vmem S512x2048 .f32) (harg7 : arg7.IsWhole)
    (arg8 : Memref sig .tc .vmem S4x2048x2048 .bf16) (harg8 : arg8.IsWhole) (arg9 : Memref sig .tc .vmem S512x2048 .bf16) (harg9 : arg9.IsWhole)
    (x0 : Vec F S512x2048 .f32) (x1 : Vec F S1024x2048 .i8) (x2 : Vec F S16x2048 .bf16) (x3 : Vec F S16x2048 .i8) (x4 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_w4a16_linear i arg2 harg2 arg3 harg3 arg4 harg4 arg5 harg5 arg6 harg6 arg7 harg7 arg8 harg8 arg9 harg9) K := by
  by_cases hc0 : condW i <;> by_cases hc1 : condX i <;>
  · simp only [cc0_w4a16_linear_eq_skeleton]; unfold cc0_w4a16_linear_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %fs0, -, HS0⟩, ⟨%d9, %fs1, -, HS1⟩, Hk⟩
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; iexists _; isplitr; swap; · iexact H5
      ipureintro; rfl
    isplitl [HS0]
    · iexists _; iexists _; isplitr; swap; · iexact HS0
      ipureintro; rfl
    iexists _; iexists _; isplitr; swap; · iexact HS1
    ipureintro; rfl

/-! ## The pipeline's proof data -/

variable (m : (ℓ : Loc nD τ sig) → Buf (Elt F) ℓ) (ρ : Dev nD → PrngReg)

/-- Arrays as the region finds them; after a point each buffer at its block (the result's is not claimed). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦA spec0 c
  q _ := fullShare
  owed _ := 0

/-- The window nothing is claimed of: the result's. -/
def unclaimed : Fin cfg0.W → Bool
  | ⟨0, _⟩ => false
  | ⟨1, _⟩ => false
  | ⟨2, _⟩ => false
  | ⟨3, _⟩ => false
  | ⟨4, _⟩ => false
  | ⟨5, _⟩ => true

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d))

/-- The first input's buffer holds its block at every point. -/
theorem before0 (c : Dev nD) (t : Fin cfg0.N) (d) : (dats m 0 c).before 0 t d = iblk m c 0 t :=
  before0_0_of m (dats m 0 c) rfl (fun _ => by dsimp only [dats]) t d
/-- The second input's buffer likewise. -/
theorem before1 (c : Dev nD) (t : Fin cfg0.N) (d) : (dats m 0 c).before 1 t d = iblk m c 1 t :=
  before0_1_of m (dats m 0 c) rfl (fun _ => by dsimp only [dats]) t d
/-- The third input's buffer likewise. -/
theorem before2 (c : Dev nD) (t : Fin cfg0.N) (d) : (dats m 0 c).before 2 t d = iblk m c 2 t :=
  before0_2_of m (dats m 0 c) rfl (fun _ => by dsimp only [dats]) t d
/-- The fourth input's buffer likewise. -/
theorem before3 (c : Dev nD) (t : Fin cfg0.N) (d) : (dats m 0 c).before 3 t d = iblk m c 3 t :=
  before0_3_of m (dats m 0 c) rfl (fun _ => by dsimp only [dats]) t d
/-- The fifth input's buffer likewise. -/
theorem before4 (c : Dev nD) (t : Fin cfg0.N) (d) : (dats m 0 c).before 4 t d = iblk m c 4 t :=
  before0_4_of m (dats m 0 c) rfl (fun _ => by dsimp only [dats]) t d

set_option maxHeartbeats 1600000 in
/-- The body at any point, called as the pipeline calls it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨HS0, HS1⟩, Hg⟩, Ho, ⟨%q0, H0⟩, ⟨%q1, H1⟩, ⟨%q2, H2⟩, ⟨%q3, H3⟩, ⟨%q4, H4⟩, H5⟩
  iapply (body_runs c (grid0.coords t) (ms0 t) (hs0 t) (ms1 t) (hs1 t) (ms2 t) (hs2 t) (ms3 t) (hs3 t) (ms4 t) (hs4 t) (ms5 t) (hs5 t)
    scW (Memref.isWhole_whole _) scX (Memref.isWhole_whole _) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := F)) Variants.none () Set.univ unclaimed := fun t => by
  rw [bigSep_W0, bigSep_W0, defs₀_row]
  exact triple_restated (sound_body m c t) rfl .rfl fun _ => .rfl

/-! ## The run -/

/-- The one buffer the host line after the kernel writes. -/
theorem sfx_writes : ∀ ops ∈ ([hostOps1] : List (List (HloOp τ sig (Elt F)))), ∀ op ∈ ops,
    ∀ b : Ref sig .tc, Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
set_option maxHeartbeats 800000 in
/-- The launch: the inputs' arrays and everything the host line does not write are as the kernel found them, and every
    counter is zero. -/
theorem run_main : θ_run defs (onTc (τ := τ) (main (F := F))) (s₀ m ρ)
    (fun r => Pipeline.RDat.FramePostR cfg0 (fun c => (dats m 0 c).toRForget unclaimed) {main_v3} (V m) r ∧ r.2.sem = fun _ => 0) :=
  Pipeline.θ_run_frame_around_T_track_forget cfgs (dats m) (0 : Fin 1) launch0 defs₀ Variants.none unclaimed {main_v3} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl) (hin := fun _ => .rfl) (hout := fun _ => .rfl)
    (Q' := _) (hQ' := fun _ h => h)

/-- The frame: the arguments and every semaphore counter end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Finset.mem_sdiff.mpr ⟨Pipeline.mem_restRefs_of main_arg0 (by decide) (by decide), by decide⟩)).trans (V_main_arg0 m c),
        (h.1.arr_in c 1 rfl).trans (V_main_arg1 m c),
        (h.1.arr_in c 2 rfl).trans (V_main_arg2 m c),
        (h.1.arr_in c 3 rfl).trans (V_main_arg3 m c),
        ((h.1 c).2 main_arg4 (Finset.mem_sdiff.mpr ⟨Pipeline.mem_restRefs_of main_arg4 (by decide) (by decide), by decide⟩)).trans (V_main_arg4 m c)⟩,
      h.2⟩) (run_main m ρ)

end Cert.Kernel.Hand

end
-- ==== Proof.Runs.lean ====
/- The body's branch conditions in closed form, the staging buffers a grid point uses, and the invariant the
   launch hands the body, for the kernel read at exact arithmetic. -/
module

public import proofs.«01_k».proof.Proof.Gen.KernelIdeal.Frame
public import proofs.«01_k».proof.Proof.Gen.KernelIdeal.Skeleton
public import Idealize.ShloMosaic.Init

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The body is on the first row of blocks, where it fills its slab of the weight scratch. -/
abbrev cond0_0 (i : grid0.Coords) : Prop := k0_cond1 i = 1#1
/-- It holds at the points before point 4 — by arithmetic of the point. -/
theorem hcond0_0 : ∀ t : Fin cfg0.N, cond0_0 (grid0.coords t) ↔ t.val < 4 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

/-- The body is on the first column block, where it fills the activation scratch. -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-! ## The buffers the body runs on -/

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4x2048x2048 .bf16 := Memref.whole cc0_scratch0
abbrev scM0_1 : Memref sig .tc .vmem S512x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Weights.lean ====
/- One group of the kernel's dequantisation, at exact arithmetic: the four-bit code placed in the significand of a
   bf16 between 128 and 143, less 128, less the zero point, times the scale — is the code less the zero point times
   the scale. -/
module

public import proofs.«01_k».proof.Proof.Gen.KernelIdeal.Skeleton
public import Idealize.ShloMosaic.Lib.BitcastPair
public import Idealize.ShloMosaic.Lib.Pointwise
public import Idealize.ShloMosaic.Lib.IdealHost

@[expose] public section

set_option maxRecDepth 16384

noncomputable section

namespace Cert.KernelIdeal.Hand

open Idealize.ShloMosaic
open Cert.KernelIdeal.Gen

/-- The code at row parity `k` of a packed byte: the low four bits at an even row, the high four at an odd one. -/
def code (b : BitVec 8) (k : Nat) : BitVec 32 :=
  if k = 0 then b.setWidth 32 &&& 15#32 else (b.setWidth 32).sshiftRight 4

/-- One weight: the code less the zero point, times the scale. -/
def weight (b : BitVec 8) (k : Nat) (z : BitVec 8) (s : EReal) : EReal :=
  ((((code b k).toInt : ℝ) : EReal) - ((((z.setWidth 32).toInt : ℝ)) : EReal)) * s

/-- The kernel's 32-bit word of a packed byte: the low code in its low half, the high code in its high half, under
    the exponent of 128 in both. -/
def word (b : BitVec 8) : BitVec 32 :=
  ((b.setWidth 32 &&& 15#32) ||| ((b.setWidth 32 &&& 240#32) <<< 12)) ||| 1124090624#32

/-- Half `k` of the word is the exponent of 128 over the code. -/
theorem word_half (b : BitVec 8) : ∀ k : Fin 2,
    (word b).extractLsb' (16 * k.val) 16 = 0x4300#16 ||| (code b k.val).setWidth 16 := by
  unfold word code
  revert b
  decide +kernel

/-- The code is below sixteen. -/
theorem code_lt (b : BitVec 8) : ∀ k : Fin 2, (code b k.val).toNat < 16 := by
  unfold code
  revert b
  decide +kernel

/-- A bf16 whose significand holds a number below sixteen under the exponent of 128 is 128 plus that number. -/
theorem ofBits_magic : ∀ q : Fin 16, Ideal.ofBits .bf16 (0x4300#16 ||| (BitVec.ofNat 16 q.val))
    = (((128 + q.val : ℕ) : ℝ) : EReal) := by
  intro q
  have key : ∀ q : Fin 16, ((0x4300#16 ||| (BitVec.ofNat 16 q.val)).extractLsb' 15 1 == 1#1) = false
      ∧ ((0x4300#16 ||| (BitVec.ofNat 16 q.val)).extractLsb' 7 8).toNat = 134
      ∧ ((0x4300#16 ||| (BitVec.ofNat 16 q.val)).extractLsb' 0 7).toNat = q.val := by decide +kernel
  obtain ⟨h1, h2, h3⟩ := key q
  simp only [Ideal.ofBits, Ideal.ieee, h1, h2, h3]
  norm_num

/-- Half `k` of the word, read as a bf16 less 128, is the code. -/
theorem magic_sub (b : BitVec 8) (k : Fin 2) :
    Ideal.ofBits .bf16 ((word b).extractLsb' (16 * k.val) 16) - Ideal.ofBits .bf16 0x4300#16
      = (((code b k.val).toInt : ℝ) : EReal) := by
  have hlt := code_lt b k
  have hc : code b k.val = BitVec.ofNat 32 (code b k.val).toNat := by simp
  have hi : (code b k.val).toInt = ((code b k.val).toNat : ℤ) := by
    rw [BitVec.toInt_eq_toNat_of_lt]; omega
  have h0 : Ideal.ofBits .bf16 0x4300#16 = ((128 : ℝ) : EReal) := by
    have := ofBits_magic 0
    simpa using this
  have e : (code b k.val).setWidth 16 = BitVec.ofNat 16 (code b k.val).toNat := by
    apply BitVec.eq_of_toNat_eq; simp
  rw [word_half, e, ofBits_magic ⟨_, hlt⟩, h0, hi]
  rw [← EReal.coe_sub]
  norm_num

/-- One group's result: row `r`, column `c` is the weight of byte row `r / 2` at parity `r % 2`, with the group's zero
    point and scale of that column. -/
theorem pay4_apply (p : Vec Ideal S64x2048 .i8) (z : Vec Ideal S1x2048 .i8) (s : Vec Ideal S1x2048 .bf16)
    (r : Fin 128) (c : Fin 2048) :
    k0_pay4 (F := Ideal) p z s (ix3 0 r c)
      = weight (p (ix2 ⟨r.val / 2, by omega⟩ c)) (r.val % 2) (z (ix2 0 c)) (s (ix2 0 c)) := by
  unfold k0_pay4
  pointwise
  rw [bitcast_32_16]
  have hrow : S128x2048.row (ix2 r c) = r.val := rfl
  have hsrc : ∀ h, Shape.Bitcasts.srcIdx bitcasts_S64x2048_w32_S128x2048_w16 (ix2 r c) (S128x2048.row (ix2 r c) / 2) h
      = ix2 ⟨r.val / 2, by omega⟩ c := by
    intro h
    funext a
    apply Fin.ext
    match a with
    | ⟨0, _⟩ => rfl
    | ⟨1, _⟩ => rfl
  rw [hsrc, hrow]
  have hm := magic_sub (p (ix2 ⟨r.val / 2, by omega⟩ c)) ⟨r.val % 2, Nat.mod_lt _ (by decide)⟩
  exact congrArg (fun x : EReal => (x - _) * _) hm

end Cert.KernelIdeal.Hand

end
-- ==== Proof.Tiles.lean ====
/- What the weight scratch holds after the kernel has stored some groups of one slab: the groups' weights in the rows
   stored, the earlier contents elsewhere. -/
module

public import proofs.«01_k».proof.Proof.Weights
public import Idealize.ShloMosaic.Lib.WritesUnit
public import Idealize.ShloMosaic.Lib.Pipeline.Value

@[expose] public section

set_option maxRecDepth 16384

noncomputable section

namespace Cert.KernelIdeal.Hand

open Idealize.ShloMosaic
open Cert.KernelIdeal.Gen

/-- The weight at row `k`, column `c` of one block of the weight matrix: the block's packed codes `x1`, its scales `x2`,
    its zero points `x3`, one scale and one zero point per group of 128 rows. -/
def wBlk (x1 : Vec Ideal S1024x2048 .i8) (x2 : Vec Ideal S16x2048 .bf16) (x3 : Vec Ideal S16x2048 .i8)
    (k c : Fin 2048) : EReal :=
  weight (x1 (ix2 ⟨k.val / 2, by omega⟩ c)) (k.val % 2) (x3 (ix2 ⟨k.val / 128, by omega⟩ c)) (x2 (ix2 ⟨k.val / 128, by omega⟩ c))

/-- The scratch with slab `n` replaced by the weights `w`. -/
def setSlab (n : Nat) (w : Fin 2048 → Fin 2048 → EReal) (d : Vec Ideal S4x2048x2048 .bf16) : Vec Ideal S4x2048x2048 .bf16 :=
  fun y => if (y 0).val = n then w (y 1) (y 2) else d y

/-- The list of stores into slab `n` made so far: group `g` of 128 rows each, group 0 first, every stored tile holding
    the weights `w` of its rows. -/
inductive Tiled (n : Nat) (w : Fin 2048 → Fin 2048 → EReal) :
    Nat → List (View.Piece (Elt Ideal) S4x2048x2048 .bf16) → Prop
  | nil : Tiled n w 0 []
  | cons {g : Nat} {L : List (View.Piece (Elt Ideal) S4x2048x2048 .bf16)} (h : Tiled n w g L) (hg : g < 16)
      (off : Fin 3 → Nat) (inb : ∀ a, off a + S1x128x2048.size a ≤ S4x2048x2048.size a)
      (P : Vec Ideal S1x128x2048 .bf16) (hoff : off = ![n, 128 * g, 0])
      (hP : ∀ (r : Fin 128) (c : Fin 2048), P (ix3 0 r c) = w ⟨128 * g + r.val, by omega⟩ c) :
      Tiled n w (g + 1) (⟨Rect.unit (s := S4x2048x2048) off S1x128x2048.size inb, P⟩ :: L)

/-- After the stores of the first `g` groups, the slab's first `128 g` rows hold the weights and the rest of the scratch is
    as before. -/
theorem Tiled.read {n : Nat} {w : Fin 2048 → Fin 2048 → EReal} {sp : Space} (v : View sig .tc sp S4x2048x2048 .bf16)
    (f : v.ty.Contents (Elt Ideal)) {g : Nat} {L : List (View.Piece (Elt Ideal) S4x2048x2048 .bf16)} (h : Tiled n w g L)
    (y : S4x2048x2048.Idx) :
    v.read (Elt Ideal) (v.writes (Elt Ideal) f L) y
      = if (y 0).val = n ∧ (y 1).val < 128 * g then w (y 1) (y 2) else v.read (Elt Ideal) f y := by
  induction h with
  | nil => simp
  | @cons g L h hg off inb P hoff hP ih =>
    have y1 : (y 1).val < 2048 := (y 1).isLt
    have y2 : (y 2).val < 2048 := (y 2).isLt
    by_cases hin : (y 0).val = n ∧ 128 * g ≤ (y 1).val ∧ (y 1).val < 128 * (g + 1)
    · obtain ⟨h0, h1, h1'⟩ := hin
      rw [View.read_writes_cons_unit_of_mem v f inb P L y
        (ix3 (n0 := 1) (n1 := 128) (n2 := 2048) 0 ⟨(y 1).val - 128 * g, by omega⟩ ⟨(y 2).val, y2⟩) hoff (fun a => by
          match a with
          | ⟨0, _⟩ => exact h0
          | ⟨1, _⟩ => exact (Nat.add_sub_cancel' h1).symm
          | ⟨2, _⟩ => exact (Nat.zero_add _).symm), hP, if_pos ⟨h0, h1'⟩]
      congr 1
      exact Fin.ext (Nat.add_sub_cancel' h1)
    · have hstep : v.read (Elt Ideal) (v.writes (Elt Ideal) f
          (⟨Rect.unit (s := S4x2048x2048) off S1x128x2048.size inb, P⟩ :: L)) y
          = v.read (Elt Ideal) (v.writes (Elt Ideal) f L) y := by
        by_cases h0 : (y 0).val = n
        · refine View.read_writes_cons_unit_of_not_mem v f inb P L y hoff (1 : Fin 3) ?_
          have e : (![n, 128 * g, 0] : Fin 3 → Nat) 1 = 128 * g := rfl
          have e' : S1x128x2048.size 1 = 128 := rfl
          rw [e, e']
          omega
        · refine View.read_writes_cons_unit_of_not_mem v f inb P L y hoff (0 : Fin 3) ?_
          have e : (![n, 128 * g, 0] : Fin 3 → Nat) 0 = n := rfl
          have e' : S1x128x2048.size 0 = 1 := rfl
          rw [e, e']
          omega
      rw [hstep, ih]
      by_cases h0 : (y 0).val = n ∧ (y 1).val < 128 * g
      · rw [if_pos h0, if_pos ⟨h0.1, by omega⟩]
      · rw [if_neg h0, if_neg (fun h => by omega)]

/-- After all sixteen groups, the scratch reads as before with slab `n` replaced by the weights. -/
theorem Tiled.read_all {n : Nat} {w : Fin 2048 → Fin 2048 → EReal} {sp : Space} (v : View sig .tc sp S4x2048x2048 .bf16)
    (f : v.ty.Contents (Elt Ideal)) {L : List (View.Piece (Elt Ideal) S4x2048x2048 .bf16)} (h : Tiled n w 16 L) :
    v.read (Elt Ideal) (v.writes (Elt Ideal) f L) = setSlab n w (v.read (Elt Ideal) f) := by
  funext y
  rw [h.read]
  unfold setSlab
  have y1 : (y 1).val < 2048 := (y 1).isLt
  by_cases h0 : (y 0).val = n
  · rw [if_pos h0, if_pos ⟨h0, by omega⟩]
  · rw [if_neg h0, if_neg (fun h => h0 h.1)]

/-- One group's tile out of the block's loads: its rows hold the block's weights. -/
theorem group_apply (x1 : Vec Ideal S1024x2048 .i8) (x2 : Vec Ideal S16x2048 .bf16) (x3 : Vec Ideal S16x2048 .i8)
    (g : Nat) (hg : g < 16) (p : Vec Ideal S64x2048 .i8) (z : Vec Ideal S1x2048 .i8) (s : Vec Ideal S1x2048 .bf16)
    (hp : ∀ (r : Fin 64) (c : Fin 2048), p (ix2 r c) = x1 (ix2 ⟨64 * g + r.val, by omega⟩ c))
    (hz : ∀ c : Fin 2048, z (ix2 0 c) = x3 (ix2 ⟨g, hg⟩ c))
    (hs : ∀ c : Fin 2048, s (ix2 0 c) = x2 (ix2 ⟨g, hg⟩ c)) (r : Fin 128) (c : Fin 2048) :
    k0_pay4 (F := Ideal) p z s (ix3 0 r c) = wBlk x1 x2 x3 ⟨128 * g + r.val, by omega⟩ c := by
  rw [pay4_apply, hp, hz, hs]
  unfold wBlk
  have e1 : (128 * g + r.val) / 2 = 64 * g + r.val / 2 := by omega
  have e2 : (128 * g + r.val) / 128 = g := by omega
  have e3 : (128 * g + r.val) % 2 = r.val % 2 := by omega
  simp only [e1, e2, e3]

end Cert.KernelIdeal.Hand

end
-- ==== Proof.Body.lean ====
/- The pieces of the kernel body at exact arithmetic: what its loads read, and what its sixteen stores into the weight
   scratch leave there. -/
module

public import proofs.«01_k».proof.Proof.Runs
public import proofs.«01_k».proof.Proof.Tiles

@[expose] public section

set_option maxRecDepth 16384

noncomputable section

namespace Cert.KernelIdeal.Hand

open Idealize.ShloMosaic
open Cert.KernelIdeal.Gen

/-- The offsets of every access to the weight scratch: the slab is the second grid coordinate, whose word is exact. -/
theorem off_word (i : grid0.Coords) (row : Nat) :
    ![(Scalar.indexCast (BitVec.ofNat 32 (i 1).val)).toNat, row, 0] = ![(i 1).val, row, 0] := by
  have h : (i 1).val < 4 := (i 1).isLt
  have e : (Scalar.indexCast (BitVec.ofNat 32 (i 1).val)).toNat = (i 1).val := by
    show (BitVec.ofNat 32 (i 1).val).toNat = (i 1).val
    rw [BitVec.toNat_ofNat]
    exact Nat.mod_eq_of_lt (by omega)
  rw [e]

/-- A load through a unit-stride rectangle of a whole buffer holding `x` reads `x` at the offsets plus the index. -/
theorem load_apply {s : Shape} {sp : Space} {e : EltTy} (M : Memref sig .tc sp s e) (hM : M.IsWhole)
    (x : Vec Ideal s e) (off size : Fin s.rank → Nat) (inb : ∀ a, off a + size a ≤ s.size a)
    (j : (Rect.unit off size inb).shape.Idx) (y : s.Idx) (hy : ∀ a, (y a).val = off a + (j a).val) :
    View.readAt (Elt Ideal) M.view (Rect.unit off size inb).toLoadRect (hM.unread x) j = x y := by
  rw [View.readAt_apply, hM.read_unread]
  refine congrArg x (funext fun a => Fin.ext ?_)
  rw [hy a]
  exact congrArg (off a + ·) (Nat.one_mul _)

section Stores

variable (i : grid0.Coords) (hc : cond0_0 i)
  (arg3 : Memref sig .tc .vmem S1024x2048 .i8) (harg3 : arg3.IsWhole)
  (arg4 : Memref sig .tc .vmem S16x2048 .bf16) (harg4 : arg4.IsWhole)
  (arg5 : Memref sig .tc .vmem S16x2048 .i8) (harg5 : arg5.IsWhole)
  (x1 : Vec Ideal S1024x2048 .i8) (x2 : Vec Ideal S16x2048 .bf16) (x3 : Vec Ideal S16x2048 .i8)

/-- Group `g`'s packed rows are in the block. -/
theorem inbP (g : Fin 16) : ∀ a, (![64 * g.val, 0] : Fin 2 → Nat) a + S64x2048.size a ≤ S1024x2048.size a := by
  revert g; decide
/-- Group `g`'s row of scales or zero points is in the block. -/
theorem inbZ (g : Fin 16) : ∀ a, (![g.val, 0] : Fin 2 → Nat) a + S1x2048.size a ≤ S16x2048.size a := by
  revert g; decide

/-- The tile the kernel stores for group `g`, out of its three loads. -/
def tile (g : Fin 16) : Vec Ideal S1x128x2048 .bf16 :=
  k0_pay4 (F := Ideal)
    (View.readAt (Elt Ideal) arg3.view (Rect.unit (s := S1024x2048) ![64 * g.val, 0] S64x2048.size (inbP g)).toLoadRect (harg3.unread x1))
    (View.readAt (Elt Ideal) arg5.view (Rect.unit (s := S16x2048) ![g.val, 0] S1x2048.size (inbZ g)).toLoadRect (harg5.unread x3))
    (View.readAt (Elt Ideal) arg4.view (Rect.unit (s := S16x2048) ![g.val, 0] S1x2048.size (inbZ g)).toLoadRect (harg4.unread x2))

/-- The tile of group `g` holds the block's weights of its rows. -/
theorem tile_apply (g : Fin 16) (r : Fin 128) (c : Fin 2048) :
    tile arg3 harg3 arg4 harg4 arg5 harg5 x1 x2 x3 g (ix3 0 r c) = wBlk x1 x2 x3 ⟨128 * g.val + r.val, by omega⟩ c := by
  unfold tile
  refine group_apply x1 x2 x3 g.val g.isLt _ _ _ (fun r c => ?_) (fun c => ?_) (fun c => ?_) r c
  · exact load_apply arg3 harg3 x1 _ _ _ _ _ (fun a => match a with | ⟨0, _⟩ => rfl | ⟨1, _⟩ => (Nat.zero_add _).symm)
  · exact load_apply arg5 harg5 x3 _ _ _ _ _ (fun a => match a with | ⟨0, _⟩ => rfl | ⟨1, _⟩ => (Nat.zero_add _).symm)
  · exact load_apply arg4 harg4 x2 _ _ _ _ _ (fun a => match a with | ⟨0, _⟩ => rfl | ⟨1, _⟩ => (Nat.zero_add _).symm)

/-- One more group stored. -/
theorem tiled_step {g : Fin 16} {L : List (View.Piece (Elt Ideal) S4x2048x2048 .bf16)}
    (h : Tiled (i 1).val (wBlk x1 x2 x3) g.val L) {off : Fin 3 → Nat}
    (inb : ∀ a, off a + S1x128x2048.size a ≤ S4x2048x2048.size a) (hoff : off = ![(i 1).val, 128 * g.val, 0]) :
    Tiled (i 1).val (wBlk x1 x2 x3) (g.val + 1)
      (⟨Rect.unit (s := S4x2048x2048) off S1x128x2048.size inb, tile arg3 harg3 arg4 harg4 arg5 harg5 x1 x2 x3 g⟩ :: L) :=
  .cons h g.isLt off inb _ hoff (tile_apply arg3 harg3 arg4 harg4 arg5 harg5 x1 x2 x3 g)

/-- The sixteen stores, last first. -/
def stores : List (View.Piece (Elt Ideal) S4x2048x2048 .bf16) :=
  let T := tile arg3 harg3 arg4 harg4 arg5 harg5 x1 x2 x3
  [⟨Rect.unit (s := S4x2048x2048) (k0_off16 i) S1x128x2048.size (k0_off16_inb i hc), T 15⟩,
    ⟨Rect.unit (s := S4x2048x2048) (k0_off15 i) S1x128x2048.size (k0_off15_inb i hc), T 14⟩,
    ⟨Rect.unit (s := S4x2048x2048) (k0_off14 i) S1x128x2048.size (k0_off14_inb i hc), T 13⟩,
    ⟨Rect.unit (s := S4x2048x2048) (k0_off13 i) S1x128x2048.size (k0_off13_inb i hc), T 12⟩,
    ⟨Rect.unit (s := S4x2048x2048) (k0_off12 i) S1x128x2048.size (k0_off12_inb i hc), T 11⟩,
    ⟨Rect.unit (s := S4x2048x2048) (k0_off11 i) S1x128x2048.size (k0_off11_inb i hc), T 10⟩,
    ⟨Rect.unit (s := S4x2048x2048) (k0_off10 i) S1x128x2048.size (k0_off10_inb i hc), T 9⟩,
    ⟨Rect.unit (s := S4x2048x2048) (k0_off9 i) S1x128x2048.size (k0_off9_inb i hc), T 8⟩,
    ⟨Rect.unit (s := S4x2048x2048) (k0_off8 i) S1x128x2048.size (k0_off8_inb i hc), T 7⟩,
    ⟨Rect.unit (s := S4x2048x2048) (k0_off7 i) S1x128x2048.size (k0_off7_inb i hc), T 6⟩,
    ⟨Rect.unit (s := S4x2048x2048) (k0_off6 i) S1x128x2048.size (k0_off6_inb i hc), T 5⟩,
    ⟨Rect.unit (s := S4x2048x2048) (k0_off5 i) S1x128x2048.size (k0_off5_inb i hc), T 4⟩,
    ⟨Rect.unit (s := S4x2048x2048) (k0_off4 i) S1x128x2048.size (k0_off4_inb i hc), T 3⟩,
    ⟨Rect.unit (s := S4x2048x2048) (k0_off3 i) S1x128x2048.size (k0_off3_inb i hc), T 2⟩,
    ⟨Rect.unit (s := S4x2048x2048) (k0_off2 i) S1x128x2048.size (k0_off2_inb i hc), T 1⟩,
    ⟨Rect.unit (s := S4x2048x2048) (k0_off1 i) S1x128x2048.size (k0_off1_inb i hc), T 0⟩]

/-- They tile the slab with the block's weights. -/
theorem stores_tiled :
    Tiled (i 1).val (wBlk x1 x2 x3) 16 (stores i hc arg3 harg3 arg4 harg4 arg5 harg5 x1 x2 x3) :=
  have step := @tiled_step i arg3 harg3 arg4 harg4 arg5 harg5 x1 x2 x3
  have t0 : Tiled (i 1).val (wBlk x1 x2 x3) 0 [] := .nil
  have t1 := step (g := 0) t0 (k0_off1_inb i hc) (off_word i 0)
  have t2 := step (g := 1) t1 (k0_off2_inb i hc) (off_word i 128)
  have t3 := step (g := 2) t2 (k0_off3_inb i hc) (off_word i 256)
  have t4 := step (g := 3) t3 (k0_off4_inb i hc) (off_word i 384)
  have t5 := step (g := 4) t4 (k0_off5_inb i hc) (off_word i 512)
  have t6 := step (g := 5) t5 (k0_off6_inb i hc) (off_word i 640)
  have t7 := step (g := 6) t6 (k0_off7_inb i hc) (off_word i 768)
  have t8 := step (g := 7) t7 (k0_off8_inb i hc) (off_word i 896)
  have t9 := step (g := 8) t8 (k0_off9_inb i hc) (off_word i 1024)
  have t10 := step (g := 9) t9 (k0_off10_inb i hc) (off_word i 1152)
  have t11 := step (g := 10) t10 (k0_off11_inb i hc) (off_word i 1280)
  have t12 := step (g := 11) t11 (k0_off12_inb i hc) (off_word i 1408)
  have t13 := step (g := 12) t12 (k0_off13_inb i hc) (off_word i 1536)
  have t14 := step (g := 13) t13 (k0_off14_inb i hc) (off_word i 1664)
  have t15 := step (g := 14) t14 (k0_off15_inb i hc) (off_word i 1792)
  have t16 := step (g := 15) t15 (k0_off16_inb i hc) (off_word i 1920)
  t16

end Stores

/-- What the body reads of the weight scratch for its product: the slab of the second grid coordinate. -/
def slab (i : grid0.Coords) (d : Vec Ideal S4x2048x2048 .bf16) : Vec Ideal S1x2048x2048 .bf16 :=
  fun j => d (ix3 (n0 := 4) (n1 := 2048) (n2 := 2048) (i 1) (j 1) (j 2))

/-- The slab's load lands on the slab. -/
theorem slab_idx (i : grid0.Coords) (inb : ∀ a, k0_off17 i a + S1x2048x2048.size a ≤ S4x2048x2048.size a)
    (j : S1x2048x2048.Idx) :
    (Rect.unit (s := S4x2048x2048) (k0_off17 i) S1x2048x2048.size inb).toLoadRect.idx j
      = ix3 (n0 := 4) (n1 := 2048) (n2 := 2048) (i 1) (j 1) (j 2) := by
  have hoff : k0_off17 i = ![(i 1).val, 0, 0] := off_word i 0
  have h0 : (j 0).val = 0 := by have : (j 0).val < 1 := (j 0).isLt; omega
  funext a
  apply Fin.ext
  have e : ∀ a, ((Rect.unit (s := S4x2048x2048) (k0_off17 i) S1x2048x2048.size inb).toLoadRect.idx j a).val
      = k0_off17 i a + (j a).val := fun a => congrArg (k0_off17 i a + ·) (Nat.one_mul _)
  rw [e, hoff]
  match a with
  | ⟨0, _⟩ => exact (congrArg ((i 1).val + ·) h0)
  | ⟨1, _⟩ => exact Nat.zero_add _
  | ⟨2, _⟩ => exact Nat.zero_add _

/-- Loaded from the scratch holding `d`, the slab is `d`'s. -/
theorem slab_load (i : grid0.Coords) (arg8 : Memref sig .tc .vmem S4x2048x2048 .bf16) (harg8 : arg8.IsWhole)
    (d : Vec Ideal S4x2048x2048 .bf16) (inb : ∀ a, k0_off17 i a + S1x2048x2048.size a ≤ S4x2048x2048.size a) :
    View.readAt (Elt Ideal) arg8.view (Rect.unit (s := S4x2048x2048) (k0_off17 i) S1x2048x2048.size inb).toLoadRect
      (harg8.unread d) = slab i d := by
  funext j
  rw [View.readAt_apply, harg8.read_unread, slab_idx]
  rfl

/-- Loaded after the sixteen stores, the slab is the new contents' — of what the scratch held before it reads nothing. -/
theorem slab_stored (i : grid0.Coords) (arg8 : Memref sig .tc .vmem S4x2048x2048 .bf16)
    (w : Fin 2048 → Fin 2048 → EReal) (L : List (View.Piece (Elt Ideal) S4x2048x2048 .bf16)) (h : Tiled (i 1).val w 16 L)
    (d : Vec Ideal S4x2048x2048 .bf16) (inb : ∀ a, k0_off17 i a + S1x2048x2048.size a ≤ S4x2048x2048.size a) :
    arg8.view.readCov L (Rect.unit (s := S4x2048x2048) (k0_off17 i) S1x2048x2048.size inb).toLoadRect
      = slab i (setSlab (i 1).val w d) := by
  funext j
  unfold View.readCov
  rw [View.readAt_apply, h.read_all, slab_idx]
  unfold slab setSlab
  exact (if_pos rfl).trans (if_pos rfl).symm

end Cert.KernelIdeal.Hand

end
-- ==== Proof.Triple.lean ====
/- What one run of the body does, as a triple: the statement shared by its four cases, and whole loads and stores. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- What one run of the body does at the grid point `i`: its inputs hold `x0 … x4`, the weight scratch `d8`, the
    activation scratch `d9`; afterwards the inputs are unchanged, the scratches hold `e8` and `e9`, and the output block is
    the product of `e9` with `e8`'s slab of this point's column block, plus the bias. -/
def BodyRuns (c : Dev nD) (i : grid0.Coords) (arg2 : Memref sig .tc .vmem S512x2048 .f32) (harg2 : arg2.IsWhole) (arg3 : Memref sig .tc .vmem S1024x2048 .i8) (harg3 : arg3.IsWhole) (arg4 : Memref sig .tc .vmem S16x2048 .bf16) (harg4 : arg4.IsWhole)
    (arg5 : Memref sig .tc .vmem S16x2048 .i8) (harg5 : arg5.IsWhole) (arg6 : Memref sig .tc .vmem S1x2048 .f32) (harg6 : arg6.IsWhole) (arg7 : Memref sig .tc .vmem S512x2048 .f32) (harg7 : arg7.IsWhole)
    (arg8 : Memref sig .tc .vmem S4x2048x2048 .bf16) (harg8 : arg8.IsWhole) (arg9 : Memref sig .tc .vmem S512x2048 .bf16) (harg9 : arg9.IsWhole)
    (x0 : Vec Ideal S512x2048 .f32) (x1 : Vec Ideal S1024x2048 .i8) (x2 : Vec Ideal S16x2048 .bf16) (x3 : Vec Ideal S16x2048 .i8) (x4 : Vec Ideal S1x2048 .f32)
    (d8 : Vec Ideal S4x2048x2048 .bf16) (d9 : Vec Ideal S512x2048 .bf16) (e8 : Vec Ideal S4x2048x2048 .bf16) (e9 : Vec Ideal S512x2048 .bf16) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d8 ∗ owns (c : Thread nD τ) arg9 fullShare d9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay3 (F := Ideal) e9 (slab i e8) x4) ∗ owns (c : Thread nD τ) arg8 fullShare e8 ∗ owns (c : Thread nD τ) arg9 fullShare e9) -∗ K ⟨⟩))
      ⊢ wp frame (wpE (defs₀ (F := Ideal)) Variants.none c none) E (cc0_w4a16_linear i arg2 harg2 arg3 harg3 arg4 harg4 arg5 harg5 arg6 harg6 arg7 harg7 arg8 harg8 arg9 harg9) K

/-- A load of a whole two-axis buffer reads what it holds. -/
theorem load_whole {a b : Nat} {sp : Space} {e : EltTy} (M : Memref sig .tc sp (Shape.mk 2 ![a, b]) e) (hM : M.IsWhole)
    (x : Vec Ideal (Shape.mk 2 ![a, b]) e) (inb : ∀ d, (![0, 0] : Fin 2 → Nat) d + (Shape.mk 2 ![a, b]).size d ≤ (Shape.mk 2 ![a, b]).size d) :
    View.readAt (Elt Ideal) M.view (Rect.unit (s := Shape.mk 2 ![a, b]) ![0, 0] (Shape.mk 2 ![a, b]).size inb).toLoadRect (hM.unread x) = x := by
  funext j
  exact load_apply M hM x _ _ _ j j (fun d => match d with | ⟨0, _⟩ => (Nat.zero_add _).symm | ⟨1, _⟩ => (Nat.zero_add _).symm)

/-- The offsets of a whole access. -/
theorem zero2 : (![0, 0] : Fin 2 → Nat) = fun _ => 0 := by funext a; match a with | ⟨0, _⟩ => rfl | ⟨1, _⟩ => rfl

/-- A store over a whole buffer leaves what was stored. -/
theorem store_whole {s : Shape} {sp : Space} {e : EltTy} (M : Memref sig .tc sp s e) (f) (off : Fin s.rank → Nat) (h : off = fun _ => 0)
    (inb : ∀ d, off d + s.size d ≤ s.size d) (w : Vec Ideal s e) :
    M.view.read (Elt Ideal) (M.view.writes (Elt Ideal) f [⟨Rect.unit off s.size inb, w⟩]) = w := by
  funext j
  exact View.read_writes_cons_unit_of_mem M.view f inb w [] j j h (fun a => (Nat.zero_add _).symm)

/-- The sixteen stores read back: the scratch with its slab replaced. -/
theorem stored {L : List (View.Piece (Elt Ideal) S4x2048x2048 .bf16)} {n : Nat} {w : Fin 2048 → Fin 2048 → EReal} (h : Tiled n w 16 L)
    (M : Memref sig .tc .vmem S4x2048x2048 .bf16) (hM : M.IsWhole) (d : Vec Ideal S4x2048x2048 .bf16) :
    M.view.read (Elt Ideal) (M.view.writes (Elt Ideal) (hM.unread d) L) = setSlab n w d := by
  rw [h.read_all, hM.read_unread]

end Cert.KernelIdeal.Hand

end
-- ==== Proof.Blocks.lean ====
/- The function the kernel computes, on the arrays as the region finds them, and the windows' blocks of those arrays. -/
module

public import proofs.«01_k».proof.Proof.Triple
public import Idealize.ShloMosaic.Lib.Pipeline.ValueKit
public import Idealize.ShloMosaic.Lib.Pipeline.Value

@[expose] public section

set_option maxRecDepth 16384

noncomputable section

namespace Cert.KernelIdeal.Hand

open Idealize.ShloMosaic Idealize.ShloMosaic.TcCoe
open Cert.KernelIdeal.Gen

/-! ## The function -/

/-- The weight at row `k`, column `n`: the code in the packed byte, less its group's zero point, times its group's scale. -/
def wAll (p : Vec Ideal S1024x8192 .i8) (s : Vec Ideal S16x8192 .bf16) (z : Vec Ideal S16x8192 .i8) (k : Fin 2048) (n : Fin 8192) : EReal :=
  weight (p (ix2 ⟨k.val / 2, by omega⟩ n)) (k.val % 2) (z (ix2 ⟨k.val / 128, by omega⟩ n)) (s (ix2 ⟨k.val / 128, by omega⟩ n))

/-- The linear layer on rows of activations: activations times weights, plus the bias. -/
def linear (x : Vec Ideal S16384x2048 .f32) (p : Vec Ideal S1024x8192 .i8) (s : Vec Ideal S16x8192 .bf16) (z : Vec Ideal S16x8192 .i8)
    (b : Vec Ideal S1x8192 .f32) (r : Fin 16384) (n : Fin 8192) : EReal :=
  (∑ k : Fin 2048, (x (ix2 r k) : EReal) * wAll p s z k n) + b (ix2 0 n)

variable (m : (ℓ : Loc nD τ sig) → Buf (Elt Ideal) ℓ) (c : Dev nD)

/-- The weight matrix of the arrays as the region finds them. -/
abbrev W (k : Fin 2048) (n : Fin 8192) : EReal :=
  wAll (V m c main_arg1) (V m c main_arg2) (V m c main_arg3) k n

/-- The array the kernel leaves. -/
def G : Vec Ideal S16384x8192 .f32 := fun i =>
  linear (V m c main_v0) (V m c main_arg1) (V m c main_arg2) (V m c main_arg3) (V m c main_v1) (i 0) (i 1)

/-! ## The blocks -/

/-- Which block of its array each window is on: the activations by rows, the weights' three by columns while they are
    read, the bias by columns, the result by both. -/
theorem idx : ∀ t : Fin grid0.N, win0_0.index t = ![t.val / 4, 0]
    ∧ (t.val < 4 → win0_1.index t = ![0, t.val] ∧ win0_2.index t = ![0, t.val] ∧ win0_3.index t = ![0, t.val])
    ∧ win0_4.index t = ![0, t.val % 4] ∧ win0_5.index t = ![t.val / 4, t.val % 4] := by
  decide +kernel

/-- The activations' block at an entry. -/
theorem x_blk (t : Fin cfg0.N) (r : Fin 512) (k : Fin 2048) (R : Fin 16384) (hR : R.val = 512 * (t.val / 4) + r.val) :
    iblk m c 0 t (ix2 r k) = V m c main_v0 (ix2 R k) := by
  have e := (idx t).1
  blk_ext [iblk, e]

/-- The packed weights' block at an entry, while it is read. -/
theorem p_blk (t : Fin cfg0.N) (ht : t.val < 4) (k : Fin 1024) (n : Fin 2048) (N : Fin 8192) (hN : N.val = 2048 * t.val + n.val) :
    iblk m c 1 t (ix2 k n) = V m c main_arg1 (ix2 k N) := by
  have e := ((idx t).2.1 ht).1
  blk_ext [iblk, e]

/-- The scales' block at an entry, while it is read. -/
theorem s_blk (t : Fin cfg0.N) (ht : t.val < 4) (g : Fin 16) (n : Fin 2048) (N : Fin 8192) (hN : N.val = 2048 * t.val + n.val) :
    iblk m c 2 t (ix2 g n) = V m c main_arg2 (ix2 g N) := by
  have e := ((idx t).2.1 ht).2.1
  blk_ext [iblk, e]

/-- The zero points' block at an entry, while it is read. -/
theorem z_blk (t : Fin cfg0.N) (ht : t.val < 4) (g : Fin 16) (n : Fin 2048) (N : Fin 8192) (hN : N.val = 2048 * t.val + n.val) :
    iblk m c 3 t (ix2 g n) = V m c main_arg3 (ix2 g N) := by
  have e := ((idx t).2.1 ht).2.2
  blk_ext [iblk, e]

/-- The bias's block at an entry. -/
theorem b_blk (t : Fin cfg0.N) (n : Fin 2048) (N : Fin 8192) (hN : N.val = 2048 * (t.val % 4) + n.val) :
    iblk m c 4 t (ix2 0 n) = V m c main_v1 (ix2 0 N) := by
  have e := (idx t).2.2.1
  blk_ext [iblk, e]

/-- The weights the first row of blocks stores are the weight matrix's columns of the block. -/
theorem w_blk (t : Fin cfg0.N) (ht : t.val < 4) (k n : Fin 2048) (N : Fin 8192) (hN : N.val = 2048 * t.val + n.val) :
    wBlk (iblk m c 1 t) (iblk m c 2 t) (iblk m c 3 t) k n = W m c k N := by
  unfold wBlk W wAll
  rw [p_blk m c t ht _ n N hN, s_blk m c t ht _ n N hN, z_blk m c t ht _ n N hN]

/-! ## The body's payloads at an entry -/

/-- The activations kept in the scratch are the block's: rounding to a narrower type is nothing at exact arithmetic. -/
theorem pay2_apply (x : Vec Ideal S512x2048 .f32) (r : Fin 512) (k : Fin 2048) : k0_pay2 (F := Ideal) x (ix2 r k) = x (ix2 r k) := by
  unfold k0_pay2
  pointwise

/-- The block stored: the product's sum, plus the bias. -/
theorem pay3_apply (x : Vec Ideal S512x2048 .bf16) (w : Vec Ideal S1x2048x2048 .bf16) (b : Vec Ideal S1x2048 .f32) (r : Fin 512) (n : Fin 2048) :
    k0_pay3 (F := Ideal) x w b (ix2 r n) = ((∑ k : Fin 2048, (x (ix2 r k) : EReal) * w (ix3 0 k n)) + b (ix2 0 n) : EReal) := by
  unfold k0_pay3
  pointwise

end Cert.KernelIdeal.Hand

end
-- ==== Proof.RunA.lean ====
/- The body on the first row of blocks, first column block: both fill their scratch. -/
module

public import proofs.«01_k».proof.Proof.Triple

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

set_option maxHeartbeats 1000000 in
/-- The body's run on the first row of blocks, first column block: both fill their scratch. -/
theorem run_A (c : Dev nD) (i : grid0.Coords) (arg2 : Memref sig .tc .vmem S512x2048 .f32) (harg2 : arg2.IsWhole) (arg3 : Memref sig .tc .vmem S1024x2048 .i8) (harg3 : arg3.IsWhole) (arg4 : Memref sig .tc .vmem S16x2048 .bf16) (harg4 : arg4.IsWhole)
    (arg5 : Memref sig .tc .vmem S16x2048 .i8) (harg5 : arg5.IsWhole) (arg6 : Memref sig .tc .vmem S1x2048 .f32) (harg6 : arg6.IsWhole) (arg7 : Memref sig .tc .vmem S512x2048 .f32) (harg7 : arg7.IsWhole)
    (arg8 : Memref sig .tc .vmem S4x2048x2048 .bf16) (harg8 : arg8.IsWhole) (arg9 : Memref sig .tc .vmem S512x2048 .bf16) (harg9 : arg9.IsWhole)
    (hc0 : cond0_0 i) (hc1 : cond0_1 i)
    (x0 : Vec Ideal S512x2048 .f32) (x1 : Vec Ideal S1024x2048 .i8) (x2 : Vec Ideal S16x2048 .bf16) (x3 : Vec Ideal S16x2048 .i8) (x4 : Vec Ideal S1x2048 .f32)
    (d8 : Vec Ideal S4x2048x2048 .bf16) (d9 : Vec Ideal S512x2048 .bf16) :
    BodyRuns c i arg2 harg2 arg3 harg3 arg4 harg4 arg5 harg5 arg6 harg6 arg7 harg7 arg8 harg8 arg9 harg9 x0 x1 x2 x3 x4 d8 d9
      (setSlab (i 1).val (wBlk x1 x2 x3) d8) (k0_pay2 (F := Ideal) x0) := by
    intro E K
    simp only [cc0_w4a16_linear_eq_skeleton]; unfold cc0_w4a16_linear_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (store_whole arg7 _ _ zero2 _ _).trans ?_
      exact congr (congr (congrArg (k0_pay3 (F := Ideal)) ((View.readCov_unit_zero arg9.view zero2 _ _).trans (congrArg (k0_pay2 (F := Ideal)) (load_whole arg2 harg2 x0 _))))
        (slab_stored i arg8 _ _ (stores_tiled i hc0 arg3 harg3 arg4 harg4 arg5 harg5 x1 x2 x3) d8 _))
        (load_whole arg6 harg6 x4 _)
    isplitl [HS0]
    · iexists _; isplitr; swap; · iexact HS0
      ipureintro
      exact stored (stores_tiled i hc0 arg3 harg3 arg4 harg4 arg5 harg5 x1 x2 x3) arg8 harg8 d8
    iexists _; isplitr; swap; · iexact HS1
    ipureintro
    exact (store_whole arg9 _ _ zero2 _ _).trans (congrArg (k0_pay2 (F := Ideal)) (load_whole arg2 harg2 x0 _))

end Cert.KernelIdeal.Hand

end
-- ==== Proof.RunB.lean ====
/- The body on the first row of blocks, a later column block: the weights are filled, the activations kept. -/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

set_option maxHeartbeats 1000000 in
/-- The body's run on the first row of blocks, a later column block: the weights are filled, the activations kept. -/
theorem run_B (c : Dev nD) (i : grid0.Coords) (arg2 : Memref sig .tc .vmem S512x2048 .f32) (harg2 : arg2.IsWhole) (arg3 : Memref sig .tc .vmem S1024x2048 .i8) (harg3 : arg3.IsWhole) (arg4 : Memref sig .tc .vmem S16x2048 .bf16) (harg4 : arg4.IsWhole)
    (arg5 : Memref sig .tc .vmem S16x2048 .i8) (harg5 : arg5.IsWhole) (arg6 : Memref sig .tc .vmem S1x2048 .f32) (harg6 : arg6.IsWhole) (arg7 : Memref sig .tc .vmem S512x2048 .f32) (harg7 : arg7.IsWhole)
    (arg8 : Memref sig .tc .vmem S4x2048x2048 .bf16) (harg8 : arg8.IsWhole) (arg9 : Memref sig .tc .vmem S512x2048 .bf16) (harg9 : arg9.IsWhole)
    (hc0 : cond0_0 i) (hc1 : ¬cond0_1 i)
    (x0 : Vec Ideal S512x2048 .f32) (x1 : Vec Ideal S1024x2048 .i8) (x2 : Vec Ideal S16x2048 .bf16) (x3 : Vec Ideal S16x2048 .i8) (x4 : Vec Ideal S1x2048 .f32)
    (d8 : Vec Ideal S4x2048x2048 .bf16) (d9 : Vec Ideal S512x2048 .bf16) :
    BodyRuns c i arg2 harg2 arg3 harg3 arg4 harg4 arg5 harg5 arg6 harg6 arg7 harg7 arg8 harg8 arg9 harg9 x0 x1 x2 x3 x4 d8 d9
      (setSlab (i 1).val (wBlk x1 x2 x3) d8) d9 := by
    intro E K
    simp only [cc0_w4a16_linear_eq_skeleton]; unfold cc0_w4a16_linear_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (store_whole arg7 _ _ zero2 _ _).trans ?_
      exact congr (congr (congrArg (k0_pay3 (F := Ideal)) (load_whole arg9 harg9 d9 _))
        (slab_stored i arg8 _ _ (stores_tiled i hc0 arg3 harg3 arg4 harg4 arg5 harg5 x1 x2 x3) d8 _))
        (load_whole arg6 harg6 x4 _)
    isplitl [HS0]
    · iexists _; isplitr; swap; · iexact HS0
      ipureintro
      exact stored (stores_tiled i hc0 arg3 harg3 arg4 harg4 arg5 harg5 x1 x2 x3) arg8 harg8 d8
    iexists _; isplitr; swap; · iexact HS1
    ipureintro
    exact harg9.read_unread _

end Cert.KernelIdeal.Hand

end
-- ==== Proof.RunC.lean ====
/- The body on a later row of blocks, first column block: the weights are kept, the activations filled. -/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

set_option maxHeartbeats 1000000 in
/-- The body's run on a later row of blocks, first column block: the weights are kept, the activations filled. -/
theorem run_C (c : Dev nD) (i : grid0.Coords) (arg2 : Memref sig .tc .vmem S512x2048 .f32) (harg2 : arg2.IsWhole) (arg3 : Memref sig .tc .vmem S1024x2048 .i8) (harg3 : arg3.IsWhole) (arg4 : Memref sig .tc .vmem S16x2048 .bf16) (harg4 : arg4.IsWhole)
    (arg5 : Memref sig .tc .vmem S16x2048 .i8) (harg5 : arg5.IsWhole) (arg6 : Memref sig .tc .vmem S1x2048 .f32) (harg6 : arg6.IsWhole) (arg7 : Memref sig .tc .vmem S512x2048 .f32) (harg7 : arg7.IsWhole)
    (arg8 : Memref sig .tc .vmem S4x2048x2048 .bf16) (harg8 : arg8.IsWhole) (arg9 : Memref sig .tc .vmem S512x2048 .bf16) (harg9 : arg9.IsWhole)
    (hc0 : ¬cond0_0 i) (hc1 : cond0_1 i)
    (x0 : Vec Ideal S512x2048 .f32) (x1 : Vec Ideal S1024x2048 .i8) (x2 : Vec Ideal S16x2048 .bf16) (x3 : Vec Ideal S16x2048 .i8) (x4 : Vec Ideal S1x2048 .f32)
    (d8 : Vec Ideal S4x2048x2048 .bf16) (d9 : Vec Ideal S512x2048 .bf16) :
    BodyRuns c i arg2 harg2 arg3 harg3 arg4 harg4 arg5 harg5 arg6 harg6 arg7 harg7 arg8 harg8 arg9 harg9 x0 x1 x2 x3 x4 d8 d9
      d8 (k0_pay2 (F := Ideal) x0) := by
    intro E K
    simp only [cc0_w4a16_linear_eq_skeleton]; unfold cc0_w4a16_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (store_whole arg7 _ _ zero2 _ _).trans ?_
      exact congr (congr (congrArg (k0_pay3 (F := Ideal)) ((View.readCov_unit_zero arg9.view zero2 _ _).trans (congrArg (k0_pay2 (F := Ideal)) (load_whole arg2 harg2 x0 _))))
        (slab_load i arg8 harg8 d8 _))
        (load_whole arg6 harg6 x4 _)
    isplitl [HS0]
    · iexists _; isplitr; swap; · iexact HS0
      ipureintro
      exact harg8.read_unread _
    iexists _; isplitr; swap; · iexact HS1
    ipureintro
    exact (store_whole arg9 _ _ zero2 _ _).trans (congrArg (k0_pay2 (F := Ideal)) (load_whole arg2 harg2 x0 _))

end Cert.KernelIdeal.Hand

end
-- ==== Proof.RunD.lean ====
/- The body on a later row of blocks, a later column block: both scratches are kept. -/
module

public import proofs.«01_k».proof.Proof.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

set_option maxHeartbeats 1000000 in
/-- The body's run on a later row of blocks, a later column block: both scratches are kept. -/
theorem run_D (c : Dev nD) (i : grid0.Coords) (arg2 : Memref sig .tc .vmem S512x2048 .f32) (harg2 : arg2.IsWhole) (arg3 : Memref sig .tc .vmem S1024x2048 .i8) (harg3 : arg3.IsWhole) (arg4 : Memref sig .tc .vmem S16x2048 .bf16) (harg4 : arg4.IsWhole)
    (arg5 : Memref sig .tc .vmem S16x2048 .i8) (harg5 : arg5.IsWhole) (arg6 : Memref sig .tc .vmem S1x2048 .f32) (harg6 : arg6.IsWhole) (arg7 : Memref sig .tc .vmem S512x2048 .f32) (harg7 : arg7.IsWhole)
    (arg8 : Memref sig .tc .vmem S4x2048x2048 .bf16) (harg8 : arg8.IsWhole) (arg9 : Memref sig .tc .vmem S512x2048 .bf16) (harg9 : arg9.IsWhole)
    (hc0 : ¬cond0_0 i) (hc1 : ¬cond0_1 i)
    (x0 : Vec Ideal S512x2048 .f32) (x1 : Vec Ideal S1024x2048 .i8) (x2 : Vec Ideal S16x2048 .bf16) (x3 : Vec Ideal S16x2048 .i8) (x4 : Vec Ideal S1x2048 .f32)
    (d8 : Vec Ideal S4x2048x2048 .bf16) (d9 : Vec Ideal S512x2048 .bf16) :
    BodyRuns c i arg2 harg2 arg3 harg3 arg4 harg4 arg5 harg5 arg6 harg6 arg7 harg7 arg8 harg8 arg9 harg9 x0 x1 x2 x3 x4 d8 d9
      d8 d9 := by
    intro E K
    simp only [cc0_w4a16_linear_eq_skeleton]; unfold cc0_w4a16_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (store_whole arg7 _ _ zero2 _ _).trans ?_
      exact congr (congr (congrArg (k0_pay3 (F := Ideal)) (load_whole arg9 harg9 d9 _))
        (slab_load i arg8 harg8 d8 _))
        (load_whole arg6 harg6 x4 _)
    isplitl [HS0]
    · iexists _; isplitr; swap; · iexact HS0
      ipureintro
      exact harg8.read_unread _
    iexists _; isplitr; swap; · iexact HS1
    ipureintro
    exact harg9.read_unread _

end Cert.KernelIdeal.Hand

end
-- ==== Proof.Launch.lean ====
/- The whole grid: what the two scratches hold between points, the body obligation under that invariant, and the run —
   the result array ends holding the linear layer. -/
module

public import proofs.«01_k».proof.Proof.Blocks
public import proofs.«01_k».proof.Proof.RunD
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What the scratches hold -/

/-- The weight scratch after `j` points: the slabs of the first `j` column blocks hold those columns of the weights. -/
def HoldsW (c : Dev nD) (j : Nat) (d : Vec Ideal S4x2048x2048 .bf16) : Prop :=
  ∀ n : Fin 4, n.val < j → ∀ (k q : Fin 2048) (N : Fin 8192), N.val = 2048 * n.val + q.val → (d (ix3 n k q) : EReal) = W m c k N

/-- The activation scratch holds the block of rows `b`. -/
def HoldsX (c : Dev nD) (b : Nat) (d : Vec Ideal S512x2048 .bf16) : Prop :=
  ∀ (r : Fin 512) (k : Fin 2048) (R : Fin 16384), R.val = 512 * b + r.val → (d (ix2 r k) : EReal) = V m c main_v0 (ix2 R k)

/-- Between points: the weights stored so far, and, inside a row of blocks, its activations. -/
def Good (c : Dev nD) (j : Nat) (d8 : Vec Ideal S4x2048x2048 .bf16) (d9 : Vec Ideal S512x2048 .bf16) : Prop :=
  HoldsW m c j d8 ∧ (j % 4 ≠ 0 → HoldsX m c (j / 4) d9)

/-- The grid's two coordinates at a point: only the second is needed. -/
theorem coord1 (t : Fin cfg0.N) : (grid0.coords t 1).val = t.val % 4 := by
  have e : (grid0.coords t 1).val = t.val / 1 % 4 := Pipeline.Grid.coords_val t 1 (by decide) rfl
  rwa [Nat.div_one] at e

/-- A point of the first row of blocks adds its slab. -/
theorem holdsW_fill (c : Dev nD) (t : Fin cfg0.N) (ht : t.val < 4) (d : Vec Ideal S4x2048x2048 .bf16) (h : HoldsW m c t.val d) :
    HoldsW m c (t.val + 1) (setSlab (grid0.coords t 1).val (wBlk (iblk m c 1 t) (iblk m c 2 t) (iblk m c 3 t)) d) := by
  intro n hn k q N hN
  have hc : (grid0.coords t 1).val = t.val := (coord1 t).trans (Nat.mod_eq_of_lt ht)
  unfold setSlab
  rw [hc]
  by_cases e : n.val = t.val
  · refine (if_pos e).trans ?_
    exact w_blk m c t ht k q N (by rw [← e]; exact hN)
  · refine (if_neg e).trans ?_
    exact h n (by omega) k q N hN

/-- The body's run at a point, with what it leaves: the invariant one point on, and the block of the result. -/
theorem body_point (c : Dev nD) (t : Fin cfg0.N) (d8 : Vec Ideal S4x2048x2048 .bf16) (d9 : Vec Ideal S512x2048 .bf16) (h : Good m c t.val d8 d9) :
    ∃ e8 e9, BodyRuns c (grid0.coords t) (ms0_0 t) (hs0_0 t) (ms0_1 t) (hs0_1 t) (ms0_2 t) (hs0_2 t) (ms0_3 t) (hs0_3 t) (ms0_4 t) (hs0_4 t) (ms0_5 t) (hs0_5 t)
        scM0_0 (Memref.isWhole_whole _) scM0_1 (Memref.isWhole_whole _)
        (iblk m c 0 t) (iblk m c 1 t) (iblk m c 2 t) (iblk m c 3 t) (iblk m c 4 t) d8 d9 e8 e9
      ∧ HoldsW m c (t.val + 1) e8 ∧ HoldsX m c (t.val / 4) e9 := by
  have fillX : HoldsX m c (t.val / 4) (k0_pay2 (F := Ideal) (iblk m c 0 t)) := fun r k R hR =>
    (pay2_apply _ r k).trans (x_blk m c t r k R hR)
  have keepW : ¬ t.val < 4 → HoldsW m c (t.val + 1) d8 := fun h0 n hn => h.1 n (by have := n.isLt; omega)
  by_cases h0 : t.val < 4
  · by_cases h1 : t.val % 4 = 0
    · exact ⟨_, _, run_A c _ _ _ _ _ _ _ _ _ _ _ _ _ _ _ _ _ ((hcond0_0 t).mpr h0) ((hcond0_1 t).mpr h1) _ _ _ _ _ _ _, holdsW_fill m c t h0 d8 h.1, fillX⟩
    · exact ⟨_, _, run_B c _ _ _ _ _ _ _ _ _ _ _ _ _ _ _ _ _ ((hcond0_0 t).mpr h0) (fun h => h1 ((hcond0_1 t).mp h)) _ _ _ _ _ _ _, holdsW_fill m c t h0 d8 h.1, h.2 h1⟩
  · by_cases h1 : t.val % 4 = 0
    · exact ⟨_, _, run_C c _ _ _ _ _ _ _ _ _ _ _ _ _ _ _ _ _ (fun h => h0 ((hcond0_0 t).mp h)) ((hcond0_1 t).mpr h1) _ _ _ _ _ _ _, keepW h0, fillX⟩
    · exact ⟨_, _, run_D c _ _ _ _ _ _ _ _ _ _ _ _ _ _ _ _ _ (fun h => h0 ((hcond0_0 t).mp h)) (fun h => h1 ((hcond0_1 t).mp h)) _ _ _ _ _ _ _, keepW h0, h.2 h1⟩

/-- The result's block at a point. -/
def outBlk (c : Dev nD) (t : Fin cfg0.N) : Vec Ideal S512x2048 .f32 := (win0_5.blk t).view.read (Elt Ideal) (G m c)

/-- What the body stores is the result's block. -/
theorem out_eq (c : Dev nD) (t : Fin cfg0.N) (e8 : Vec Ideal S4x2048x2048 .bf16) (e9 : Vec Ideal S512x2048 .bf16)
    (h8 : HoldsW m c (t.val + 1) e8) (h9 : HoldsX m c (t.val / 4) e9) :
    k0_pay3 (F := Ideal) e9 (slab (grid0.coords t) e8) (iblk m c 4 t) = outBlk m c t := by
  have ht : t.val < 128 := Nat.lt_of_lt_of_eq t.isLt N_0
  have e := (idx t).2.2.2
  funext j
  idx_vars j
  have hr := j0.isLt
  have hn := j1.isLt
  have hR : 512 * (t.val / 4) + j0.val < 16384 := by omega
  have hN : 2048 * (t.val % 4) + j1.val < 8192 := by omega
  have hG : outBlk m c t (ix2 j0 j1) = G m c (ix2 ⟨512 * (t.val / 4) + j0.val, hR⟩ ⟨2048 * (t.val % 4) + j1.val, hN⟩) := by
    blk_ext [outBlk, e]
  rw [hG, pay3_apply]
  show _ = linear _ _ _ _ _ _ _
  unfold linear
  congr 1
  · refine Finset.sum_congr rfl fun k _ => ?_
    congr 1
    · exact h9 j0 k _ rfl
    · exact h8 (grid0.coords t 1) (by rw [coord1]; omega) k j1 _ (by rw [coord1]; rfl)
  · exact b_blk m c t j1 _ rfl

/-! ## The pipeline's proof data -/

/-- Arrays as the region finds them; after a point each input's buffer at its block and the result's at the linear
    layer's block; the scratches as `Good` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ t := iprop(∃ d8 d9, owns (c : Thread nD τ) scM0_0 fullShare d8 ∗ owns (c : Thread nD τ) scM0_1 fullShare d9 ∗ ⌜Good m c t.val d8 d9⌝ ∗ (∃ r, prngReg c r))
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the first window's buffer: its block. -/
theorem after0_0 (c : Dev nD) (t : Fin cfg0.N) : (dats m 0 c).after 0 t = iblk m c 0 t := by dsimp only [dats]
/-- The second window's: its block. -/
theorem after0_1 (c : Dev nD) (t : Fin cfg0.N) : (dats m 0 c).after 1 t = iblk m c 1 t := by dsimp only [dats]
/-- The third window's: its block. -/
theorem after0_2 (c : Dev nD) (t : Fin cfg0.N) : (dats m 0 c).after 2 t = iblk m c 2 t := by dsimp only [dats]
/-- The fourth window's: its block. -/
theorem after0_3 (c : Dev nD) (t : Fin cfg0.N) : (dats m 0 c).after 3 t = iblk m c 3 t := by dsimp only [dats]
/-- The fifth window's: its block. -/
theorem after0_4 (c : Dev nD) (t : Fin cfg0.N) : (dats m 0 c).after 4 t = iblk m c 4 t := by dsimp only [dats]
/-- The result window's: the linear layer's block. -/
theorem after0_5 (c : Dev nD) (t : Fin cfg0.N) : (dats m 0 c).after 5 t = outBlk m c t := by dsimp only [dats]

/-- The first input's buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- The second input's buffer likewise. -/
theorem before0_1 (c : Dev nD) (t : Fin cfg0.N) (d) : (dats m 0 c).before 1 t d = iblk m c 1 t :=
  before0_1_of m (dats m 0 c) (A_eq m c 1) (after0_1 m c) t d
/-- The third input's buffer likewise. -/
theorem before0_2 (c : Dev nD) (t : Fin cfg0.N) (d) : (dats m 0 c).before 2 t d = iblk m c 2 t :=
  before0_2_of m (dats m 0 c) (A_eq m c 2) (after0_2 m c) t d
/-- The fourth input's buffer likewise. -/
theorem before0_3 (c : Dev nD) (t : Fin cfg0.N) (d) : (dats m 0 c).before 3 t d = iblk m c 3 t :=
  before0_3_of m (dats m 0 c) (A_eq m c 3) (after0_3 m c) t d
/-- The fifth input's buffer likewise. -/
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: its inputs' buffers hold their blocks and the scratches are as the invariant says, so it leaves
    the result's block and the invariant one point on. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = iprop(∃ d8 d9, owns (c : Thread nD τ) scM0_0 fullShare d8 ∗ owns (c : Thread nD τ) scM0_1 fullShare d9 ∗ ⌜Good m c (t.val + 1) d8 d9⌝ ∗ (∃ r, prngReg c r)) from rfl,
    show (dats m 0 c).Φ t.castSucc = iprop(∃ d8 d9, owns (c : Thread nD τ) scM0_0 fullShare d8 ∗ owns (c : Thread nD τ) scM0_1 fullShare d9 ∗ ⌜Good m c t.val d8 d9⌝ ∗ (∃ r, prngReg c r)) from rfl]
  iintro ⟨⟨%d8, %d9, HS0, HS1, %hG, Hg⟩, Ho, ⟨%q0, H0⟩, ⟨%q1, H1⟩, ⟨%q2, H2⟩, ⟨%q3, H3⟩, ⟨%q4, H4⟩, ⟨%q5, H5⟩⟩
  obtain ⟨e8, e9, hrun, h8, h9⟩ := body_point m c t d8 d9 hG
  have ho := out_eq m c t e8 e9 h8 h9
  iapply (hrun Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  rw [ho]
  iintro ⟨H0, H1, H2, H3, H4, H5, HS0, HS1⟩
  isplitl [HS0 HS1 Hg]
  · iexists e8, e9
    isplitl [HS0]; · iexact HS0
    isplitl [HS1]; · iexact HS1
    isplitr
    · ipureintro
      exact ⟨h8, fun hm => by rw [show (t.val + 1) / 4 = t.val / 4 by omega]; exact h9⟩
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

/-- The launch hands the scratches at any contents: nothing is stored yet. -/
theorem hin (c : Dev nD) : (Pipeline.ΦA spec0 c : sProp 𝕄) ⊢ (dats m 0 c).Φ 0 := by
  rw [PhiA0_eq, show (dats m 0 c).Φ 0 = iprop(∃ d8 d9, owns (c : Thread nD τ) scM0_0 fullShare d8 ∗ owns (c : Thread nD τ) scM0_1 fullShare d9 ∗ ⌜Good m c 0 d8 d9⌝ ∗ (∃ r, prngReg c r)) from rfl]
  iintro ⟨⟨⟨%d8, HS0⟩, ⟨%d9, HS1⟩⟩, Hg⟩
  iexists d8, d9
  isplitl [HS0]; · iexact HS0
  isplitl [HS1]; · iexact HS1
  isplitr
  · ipureintro
    exact ⟨fun n hn => absurd hn (Nat.not_lt_zero _), fun h => absurd rfl h⟩
  iexact Hg

/-- And takes them back at any contents. -/
theorem hout (c : Dev nD) : (dats m 0 c).Φ (Fin.last cfg0.N) ⊢ (Pipeline.ΦA spec0 c : sProp 𝕄) := by
  rw [PhiA0_eq, show (dats m 0 c).Φ (Fin.last cfg0.N) = iprop(∃ d8 d9, owns (c : Thread nD τ) scM0_0 fullShare d8 ∗ owns (c : Thread nD τ) scM0_1 fullShare d9 ∗ ⌜Good m c cfg0.N d8 d9⌝ ∗ (∃ r, prngReg c r)) from rfl]
  iintro ⟨%d8, %d9, HS0, HS1, -, Hg⟩
  isplitl [HS0 HS1]
  · isplitl [HS0]
    · iexists d8; iexact HS0
    iexists d9; iexact HS1
  iexact Hg

set_option backward.isDefEq.respectTransparency.types false in
set_option maxHeartbeats 800000 in
/-- The launch: every window's array ends as the proof data says, everything else as the host lines say, and every
    counter is zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

/-- The result array after the run: the linear layer. -/
theorem final_out (c : Dev nD) : (dats m 0 c).arrAt 5 cfg0.N = G m c := by
  refine (dats m 0 c).arrAt_eq_of_covers 5 _ (by decide +kernel) fun t hf y => ?_
  blk_simp
  rw [after0_5]
  rfl

end Cert.KernelIdeal.Hand

end
-- ==== Proof.Value.lean ====
/- The kernel's result as a function of its arguments: the linear layer, and the run that ends with it. -/
module

public import proofs.«01_k».proof.Proof.Launch

@[expose] public section

set_option maxRecDepth 16384

noncomputable section

namespace Cert.KernelIdeal.Hand

open Idealize.ShloMosaic Idealize.ShloMosaic.TcCoe
open Idealize.SL.Sem
open Cert.KernelIdeal.Gen

/-- The linear layer on the arguments: at batch `a`, row `s`, column `n`, the activations of that row times the column's
    weights, plus the bias. -/
def layer (x : Vec Ideal S8x2048x2048 .f32) (p : Vec Ideal S1024x8192 .i8) (s : Vec Ideal S16x8192 .bf16) (z : Vec Ideal S16x8192 .i8)
    (b : Vec Ideal S8192 .f32) : Vec Ideal S8x2048x8192 .f32 := fun i =>
  ((∑ k : Fin 2048, (x (ix3 (n0 := 8) (n1 := 2048) (n2 := 2048) (i 0) (i 1) k) : EReal) * wAll p s z k (i 2)) + b (ix1 (n0 := 8192) (i 2)) : EReal)

variable (m : (ℓ : Loc nD τ sig) → Buf (Elt Ideal) ℓ) (ρ : Dev nD → PrngReg)

/-- The layer of core `c`'s arguments. -/
abbrev result (c : Dev nD) : Vec Ideal S8x2048x8192 .f32 :=
  layer (m ((c : Thread nD τ).loc main_arg0)) (m ((c : Thread nD τ).loc main_arg1)) (m ((c : Thread nD τ).loc main_arg2))
    (m ((c : Thread nD τ).loc main_arg3)) (m ((c : Thread nD τ).loc main_arg4))

/-- The region finds the activations with their batch and row axes made one. -/
theorem V_main_v0 (c : Dev nD) : V m c main_v0 = shapeCast S16384x2048 (m ((c : Thread nD τ).loc main_arg0)) shapeCasts_S8x2048x2048_S16384x2048 := by
  show StableHlo.after (List.flatten [hostOps0]) _ _ = _
  simp only [List.flatten_cons, List.flatten_nil, List.append_nil, hostOps0]
  after_results
  rfl

/-- The region finds the bias as one row. -/
theorem V_main_v1 (c : Dev nD) : V m c main_v1 = shapeCast S1x8192 (m ((c : Thread nD τ).loc main_arg4)) shapeCasts_S8192_S1x8192 := by
  show StableHlo.after (List.flatten [hostOps0]) _ _ = _
  simp only [List.flatten_cons, List.flatten_nil, List.append_nil, hostOps0]
  after_results
  rfl

/-- Rows flattened over the batch, at an entry. -/
theorem rows_apply (x : Vec Ideal S8x2048x2048 .f32) (a : Fin 8) (s k : Fin 2048) (R : Fin 16384) (hR : R.val = 2048 * a.val + s.val) :
    shapeCast S16384x2048 x shapeCasts_S8x2048x2048_S16384x2048 (ix2 R k) = x (ix3 a s k) := by
  pointwise
  blk_ext

/-- A vector as one row, at an entry. -/
theorem row_apply (b : Vec Ideal S8192 .f32) (n : Fin 8192) : shapeCast S1x8192 b shapeCasts_S8192_S1x8192 (ix2 0 n) = b (ix1 n) := by
  pointwise

/-- Rows grouped by batch, at an entry. -/
theorem batch_apply (y : Vec Ideal S16384x8192 .f32) (a : Fin 8) (s : Fin 2048) (n : Fin 8192) :
    shapeCast S8x2048x8192 y shapeCasts_S16384x8192_S8x2048x8192 (ix3 a s n) = y (ix2 ⟨2048 * a.val + s.val, by omega⟩ n) := by
  pointwise
  blk_ext

/-- The activations' rows, flattened over the batch. -/
theorem V_x (c : Dev nD) (a : Fin 8) (s k : Fin 2048) (R : Fin 16384) (hR : R.val = 2048 * a.val + s.val) :
    V m c main_v0 (ix2 R k) = m ((c : Thread nD τ).loc main_arg0) (ix3 a s k) := by
  rw [V_main_v0]
  generalize m ((c : Thread nD τ).loc main_arg0) = x
  exact rows_apply x a s k R hR

/-- The bias's row at a column. -/
theorem V_b (c : Dev nD) (n : Fin 8192) : V m c main_v1 (ix2 0 n) = m ((c : Thread nD τ).loc main_arg4) (ix1 n) := by
  rw [V_main_v1]
  generalize m ((c : Thread nD τ).loc main_arg4) = b
  exact row_apply b n

/-- The kernel's array, its rows grouped by batch again, is the layer. -/
theorem G_layer (c : Dev nD) : shapeCast S8x2048x8192 (G m c) shapeCasts_S16384x8192_S8x2048x8192 = result m c := by
  funext i
  idx_vars i
  rw [batch_apply]
  show linear _ _ _ _ _ _ _ = _
  unfold linear
  refine congr (congrArg _ (Finset.sum_congr rfl fun k _ => ?_)) (V_b m c i2)
  exact congr (congrArg _ (V_x m c i0 i1 k _ rfl)) (by rw [V_main_arg1, V_main_arg2, V_main_arg3]; rfl)

/-- The buffer the host line after the region writes: the array's reshape, so the layer. -/
theorem after_v3 (c : Dev nD) : Pipeline.afterTail₀ cfgs (dats m) 0 (V0 m) [hostOps1] c main_v3 = result m c := by
  unfold Pipeline.afterTail₀
  refine Eq.trans ?_ (G_layer m c)
  simp only [List.flatten_cons, List.flatten_nil, List.append_nil, hostOps1]
  after_results
  funext i
  refine congrFun (congrArg (fun y => shapeCast S8x2048x8192 y shapeCasts_S16384x8192_S8x2048x8192) ?_) i
  exact (Pipeline.withArrays_arr spec0 launch0.win.arr_inj c (V0 m c) (fun w => (dats m 0 c).arrAt w cfg0.N) 5).trans (final_out m c)

/-- The run: the result at the layer, the arguments unchanged, every counter zero. -/
theorem run : θ_run defs (onTc (τ := τ) (main (F := Ideal))) ⟨m, fun _ => 0, ρ⟩ (fun r => (∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.1 c).2 main_v3 (Pipeline.mem_restRefs_of main_v3 (by decide) (by decide)) |>.trans (after_v3 m c), h.2 c⟩, h.1.2⟩)
    (θ_run_and (run_main_quiescent m ρ) (frame_of m ρ (dats m) (A_eq m) ((θ_run defs _ _).mono (fun _ h => h.1) (run_main_quiescent m ρ))))

end Cert.KernelIdeal.Hand

end
-- ==== Proof.Reference.lean ====
/- The reference's result at an entry: the same linear layer. -/
module

public import proofs.«01_k».proof.Proof.Value
public import proofs.«01_k».proof.Proof.Gen.ReferenceIdeal.Run

@[expose] public section

set_option maxRecDepth 16384

noncomputable section

namespace Cert.ReferenceIdeal.Hand

open Idealize.ShloMosaic Idealize.ShloMosaic.TcCoe
open Cert.ReferenceIdeal Cert.ReferenceIdeal.Gen
open Cert.KernelIdeal.Hand (code weight wAll layer)

/-- The two codes of each packed byte, low one first, in one column of rows. -/
def codes (p : Vec Ideal S1024x8192 .i8) : IVec S16x128x8192 32 :=
  shapeCast _ (concatenate S1024x2x8192 1 [⟨S1024x1x8192, (broadcastInDim S1024x1x8192 ![0, 2] bcast_S1024x8192_S1024x1x8192_0_2 (andi (extui 32 p natLt_8_32) (broadcastInDim S1024x8192 ![] bcast_S_S1024x8192 (constantI S_ 32 15#32))))⟩, ⟨S1024x1x8192, (broadcastInDim S1024x1x8192 ![0, 2] bcast_S1024x8192_S1024x1x8192_0_2 (Host.shrsi (extui 32 p natLt_8_32) (broadcastInDim S1024x8192 ![] bcast_S_S1024x8192 (constantI S_ 32 4#32))))⟩] concatenates_S1024x1x8192_S1024x1x8192_S1024x2x8192_d1) shapeCasts_S1024x2x8192_S16x128x8192

/-- The reference's weights. -/
def weights (p : Vec Ideal S1024x8192 .i8) (s : Vec Ideal S16x8192 .bf16) (z : Vec Ideal S16x8192 .i8) : FVec Ideal S2048x8192 .bf16 :=
  shapeCast _ (mulf (subf (sitofp .bf16 (codes p)) (broadcastInDim S16x128x8192 ![0, 1, 2] bcast_S16x1x8192_S16x128x8192_0_1_2 (broadcastInDim S16x1x8192 ![0, 2] bcast_S16x8192_S16x1x8192_0_2 (sitofp .bf16 (extui 32 z natLt_8_32))))) (broadcastInDim S16x128x8192 ![0, 1, 2] bcast_S16x1x8192_S16x128x8192_0_1_2 (broadcastInDim S16x1x8192 ![0, 2] bcast_S16x8192_S16x1x8192_0_2 s))) shapeCasts_S16x128x8192_S2048x8192

/-- The codes at an entry. -/
theorem codes_apply (p : Vec Ideal S1024x8192 .i8) (g : Fin 16) (r : Fin 128) (n : Fin 8192) :
    codes p (ix3 g r n) = code (p (ix2 ⟨(128 * g.val + r.val) / 2, by omega⟩ n)) (r.val % 2) := by
  unfold codes
  pointwise
  have hq : ∀ q : Fin 1024, q.val = g.val * 64 + r.val / 2 → p (ix2 q n) = p (ix2 ⟨(128 * g.val + r.val) / 2, by omega⟩ n) :=
    fun q h => congrArg p (congrArg (ix2 · n) (Fin.ext (h.trans (by show _ = (128 * g.val + r.val) / 2; omega))))
  unfold code
  by_cases h : r.val % 2 = 0
  · refine (dif_pos (by omega)).trans (Eq.trans ?_ (if_pos h).symm)
    exact congrArg (fun v => IntOp.andi (BitVec.setWidth 32 v) 15#32) (hq _ rfl)
  · refine (dif_neg (by omega)).trans (Eq.trans ?_ (if_neg h).symm)
    exact (if_pos (by decide)).trans (congrArg (fun v => (BitVec.setWidth 32 v).sshiftRight 4) (hq _ rfl))

/-- The weights at an entry. -/
theorem weights_apply (p : Vec Ideal S1024x8192 .i8) (s : Vec Ideal S16x8192 .bf16) (z : Vec Ideal S16x8192 .i8) (k : Fin 2048) (n : Fin 8192) :
    weights p s z (ix2 k n) = wAll p s z k n := by
  unfold weights
  pointwise
  rw [codes_apply]
  unfold wAll weight
  have e : (⟨(128 * (k.val / 128) + k.val % 128) / 2, by omega⟩ : Fin 1024) = ⟨k.val / 2, by omega⟩ := Fin.ext (by show (128 * (k.val / 128) + k.val % 128) / 2 = k.val / 2; omega)
  rw [e, show k.val % 128 % 2 = k.val % 2 by omega]
  rfl

/-- The reference's result is the linear layer. -/
theorem result_eq (x : Vec Ideal S8x2048x2048 .f32) (p : Vec Ideal S1024x8192 .i8) (s : Vec Ideal S16x8192 .bf16) (z : Vec Ideal S16x8192 .i8)
    (b : Vec Ideal S8192 .f32) :
    addf (Host.dotGeneral dot_S8x2048x2048_S2048x8192_S8x2048x8192_2_0_01_1_n_n none (truncf .bf16 x bitsLt_bf16_f32) (weights p s z))
      (broadcastInDim S8x2048x8192 ![0, 1, 2] bcast_S1x1x8192_S8x2048x8192_0_1_2 (broadcastInDim S1x1x8192 ![2] bcast_S8192_S1x1x8192_2 b))
      = layer x p s z b := by
  funext i
  idx_vars i
  pointwise
  refine congrArg (· + _) (Finset.sum_congr rfl fun k _ => ?_)
  rw [weights_apply]
  rfl

end Cert.ReferenceIdeal.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Value
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel at machine floats runs, and its arguments and semaphores end as they were. -/
theorem frame_kernel : quiescent_Kernel (hKernel := Cert.Kernel.Gen.facts) :=
  fun m ρ _ => Cert.Kernel.Hand.frame m ρ

/-- The kernel over the extended reals runs, and its arguments and semaphores end as they were. -/
theorem frame_ideal : quiescent_KernelIdeal (hKernelIdeal := Cert.KernelIdeal.Gen.facts) :=
  fun m ρ _ => (θ_run _ _ _).mono (fun _ h => ⟨fun c => (h.1 c).2, h.2⟩) (Cert.KernelIdeal.Hand.run m ρ)

/-- The reference over the extended reals runs, and its arguments and semaphores end as they were. -/
theorem frame_reference : quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference, over the extended reals, end with the same result: the linear
    layer of the arguments. -/
theorem algebraic : algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Hand.result m c,
    (θ_run Cert.KernelIdeal.defs _ _).mono (fun _ h => h.1) (Cert.KernelIdeal.Hand.run m ρ),
    (θ_run Cert.ReferenceIdeal.defs _ _).mono (fun _ h c => ⟨(h c).1.trans ?_, (h c).2⟩)
      (Cert.ReferenceIdeal.Value.run (F := Ideal) m' ρ')⟩
  obtain ⟨h0, h1, h2, h3, h4⟩ := hagree c
  rw [h0, h1, h2, h3, h4]
  exact Cert.ReferenceIdeal.Hand.result_eq _ _ _ _ _

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
